-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S1x8x2x128 Cert.KernelIdeal.S1x8x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x8192 : Shape := ⟨3, ![96, 1, 8192]⟩
abbrev S1024x32768 : Shape := ⟨2, ![1024, 32768]⟩
abbrev S64x32768 : Shape := ⟨2, ![64, 32768]⟩
abbrev S64x4096 : Shape := ⟨2, ![64, 4096]⟩
abbrev S96x8x1024 : Shape := ⟨3, ![96, 8, 1024]⟩
abbrev S96x1024x8 : Shape := ⟨3, ![96, 1024, 8]⟩
abbrev S96x8192 : Shape := ⟨2, ![96, 8192]⟩
abbrev S96x32768 : Shape := ⟨2, ![96, 32768]⟩
abbrev S1024x1024 : Shape := ⟨2, ![1024, 1024]⟩
abbrev S64x1024 : Shape := ⟨2, ![64, 1024]⟩
abbrev S64x128 : Shape := ⟨2, ![64, 128]⟩
abbrev S96x1024 : Shape := ⟨2, ![96, 1024]⟩
abbrev S8x64x128 : Shape := ⟨3, ![8, 64, 128]⟩
abbrev S8x128 : Shape := ⟨2, ![8, 128]⟩
abbrev S1x64x128 : Shape := ⟨3, ![1, 64, 128]⟩
abbrev S96x256 : Shape := ⟨2, ![96, 256]⟩
abbrev S8x128x1 : Shape := ⟨3, ![8, 128, 1]⟩
abbrev S8x32x128 : Shape := ⟨3, ![8, 32, 128]⟩
abbrev S1x8x128 : Shape := ⟨3, ![1, 8, 128]⟩
abbrev S8x32x2x128 : Shape := ⟨4, ![8, 32, 2, 128]⟩
abbrev S1x8x2x128 : Shape := ⟨4, ![1, 8, 2, 128]⟩
abbrev S1x8x1x128 : Shape := ⟨4, ![1, 8, 1, 128]⟩
abbrev S16x128 : Shape := ⟨2, ![16, 128]⟩
abbrev S16x256 : Shape := ⟨2, ![16, 256]⟩
abbrev S128x256 : Shape := ⟨2, ![128, 256]⟩
abbrev S128x8x256 : Shape := ⟨3, ![128, 8, 256]⟩
abbrev S128x1x256 : Shape := ⟨3, ![128, 1, 256]⟩
abbrev S1024x256 : Shape := ⟨2, ![1024, 256]⟩
abbrev S64x16x256 : Shape := ⟨3, ![64, 16, 256]⟩
abbrev S1x16x256 : Shape := ⟨3, ![1, 16, 256]⟩
abbrev S96x1x32768 : Shape := ⟨3, ![96, 1, 32768]⟩

abbrev nBuf : Space → Nat
  | .hbm => 9
  | .vmem => 10
  | .smem => 0
  | _ => 0

abbrev bufTy : (tb : Table) → Fin (tcTables nBuf tb) → BufTy
  | .hbm, ⟨0, _⟩ => ⟨S96x1x8192, .bf16⟩
  | .hbm, ⟨1, _⟩ => ⟨S1024x32768, .i32⟩
  | .hbm, ⟨2, _⟩ => ⟨S64x32768, .bf16⟩
  | .hbm, ⟨3, _⟩ => ⟨S64x4096, .i32⟩
  | .hbm, ⟨4, _⟩ => ⟨S96x8x1024, .bf16⟩
  | .hbm, ⟨5, _⟩ => ⟨S96x1024x8, .bf16⟩
  | .hbm, ⟨6, _⟩ => ⟨S96x8192, .bf16⟩
  | .hbm, ⟨7, _⟩ => ⟨S96x32768, .bf16⟩
  | .hbm, ⟨8, _⟩ => ⟨S96x1x32768, .bf16⟩
  | .local _ .vmem, ⟨0, _⟩ => ⟨S96x8192, .bf16⟩
  | .local _ .vmem, ⟨1, _⟩ => ⟨S1024x1024, .i32⟩
  | .local _ .vmem, ⟨2, _⟩ => ⟨S1024x1024, .i32⟩
  | .local _ .vmem, ⟨3, _⟩ => ⟨S64x1024, .bf16⟩
  | .local _ .vmem, ⟨4, _⟩ => ⟨S64x1024, .bf16⟩
  | .local _ .vmem, ⟨5, _⟩ => ⟨S64x128, .i32⟩
  | .local _ .vmem, ⟨6, _⟩ => ⟨S64x128, .i32⟩
  | .local _ .vmem, ⟨7, _⟩ => ⟨S96x1024, .bf16⟩
  | .local _ .vmem, ⟨8, _⟩ => ⟨S96x1024, .bf16⟩
  | .local _ .vmem, ⟨9, _⟩ => ⟨S8x64x128, .bf16⟩
  | _, _ => ⟨S96x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S96x1x8192 : Shape := ⟨3, ![96, 1, 8192]⟩
abbrev S1024x32768 : Shape := ⟨2, ![1024, 32768]⟩
abbrev S64x32768 : Shape := ⟨2, ![64, 32768]⟩
abbrev S64x4096 : Shape := ⟨2, ![64, 4096]⟩
abbrev S_ : Shape := ⟨0, ![]⟩
abbrev S64x4096x1 : Shape := ⟨3, ![64, 4096, 1]⟩
abbrev S64x4096x8 : Shape := ⟨3, ![64, 4096, 8]⟩
abbrev S8x128x32768 : Shape := ⟨3, ![8, 128, 32768]⟩
abbrev S8x32768 : Shape := ⟨2, ![8, 32768]⟩
abbrev S8x1x32768 : Shape := ⟨3, ![8, 1, 32768]⟩
abbrev S96x1x1024 : Shape := ⟨3, ![96, 1, 1024]⟩
abbrev S96x1x32768 : Shape := ⟨3, ![96, 1, 32768]⟩

abbrev nBuf : Space → Nat
  | .hbm => 223
  | .vmem => 0
  | .smem => 0
  | _ => 0

abbrev hbmTy0_0 (i : Nat) : BufTy := match i % 128 with
  | 0 => ⟨S96x1x8192, .bf16⟩
  | 1 => ⟨S1024x32768, .i32⟩
  | 2 => ⟨S64x32768, .bf16⟩
  | 3 => ⟨S64x4096, .i32⟩
  | 4 => ⟨S_, .i32⟩
  | 5 => ⟨S64x4096, .i32⟩
  | 6 => ⟨S64x4096, .i32⟩
  | 7 => ⟨S_, .i32⟩
  | 8 => ⟨S64x4096, .i32⟩
  | 9 => ⟨S64x4096, .i32⟩
  | 10 => ⟨S_, .i32⟩
  | 11 => ⟨S64x4096, .i32⟩
  | 12 => ⟨S64x4096, .i32⟩
  | 13 => ⟨S_, .i32⟩
  | 14 => ⟨S64x4096, .i32⟩
  | 15 => ⟨S64x4096, .i32⟩
  | 16 => ⟨S_, .i32⟩
  | 17 => ⟨S64x4096, .i32⟩
  | 18 => ⟨S64x4096, .i32⟩
  | 19 => ⟨S_, .i32⟩
  | 20 => ⟨S64x4096, .i32⟩
  | 21 => ⟨S64x4096, .i32⟩
  | 22 => ⟨S_, .i32⟩
  | 23 => ⟨S64x4096, .i32⟩
  | 24 => ⟨S64x4096, .i32⟩
  | 25 => ⟨S_, .i32⟩
  | 26 => ⟨S64x4096, .i32⟩
  | 27 => ⟨S64x4096, .i32⟩
  | 28 => ⟨S_, .i32⟩
  | 29 => ⟨S64x4096, .i32⟩
  | 30 => ⟨S64x4096, .i32⟩
  | 31 => ⟨S_, .i32⟩
  | 32 => ⟨S64x4096, .i32⟩
  | 33 => ⟨S64x4096, .i32⟩
  | 34 => ⟨S_, .i32⟩
  | 35 => ⟨S64x4096, .i32⟩
  | 36 => ⟨S64x4096, .i32⟩
  | 37 => ⟨S_, .i32⟩
  | 38 => ⟨S64x4096, .i32⟩
  | 39 => ⟨S64x4096, .i32⟩
  | 40 => ⟨S_, .i32⟩
  | 41 => ⟨S64x4096, .i32⟩
  | 42 => ⟨S64x4096, .i32⟩
  | 43 => ⟨S_, .i32⟩
  | 44 => ⟨S64x4096, .i32⟩
  | 45 => ⟨S64x4096, .i32⟩
  | 46 => ⟨S_, .i32⟩
  | 47 => ⟨S64x4096, .i32⟩
  | 48 => ⟨S64x4096, .i32⟩
  | 49 => ⟨S_, .i32⟩
  | 50 => ⟨S64x4096, .i32⟩
  | 51 => ⟨S64x4096, .i32⟩
  | 52 => ⟨S64x4096x1, .i32⟩
  | 53 => ⟨S64x4096x1, .i32⟩
  | 54 => ⟨S64x4096x1, .i32⟩
  | 55 => ⟨S64x4096x1, .i32⟩
  | 56 => ⟨S64x4096x1, .i32⟩
  | 57 => ⟨S64x4096x1, .i32⟩
  | 58 => ⟨S64x4096x1, .i32⟩
  | 59 => ⟨S64x4096x1, .i32⟩
  | 60 => ⟨S64x4096x8, .i32⟩
  | 61 => ⟨S64x32768, .i32⟩
  | 62 => ⟨S64x32768, .bf16⟩
  | 63 => ⟨S_, .i32⟩
  | 64 => ⟨S1024x32768, .i32⟩
  | 65 => ⟨S1024x32768, .i32⟩
  | 66 => ⟨S_, .i32⟩
  | 67 => ⟨S1024x32768, .i32⟩
  | 68 => ⟨S1024x32768, .i32⟩
  | 69 => ⟨S1024x32768, .bf16⟩
  | 70 => ⟨S8x128x32768, .bf16⟩
  | 71 => ⟨S8x32768, .bf16⟩
  | 72 => ⟨S8x1x32768, .bf16⟩
  | 73 => ⟨S8x128x32768, .bf16⟩
  | 74 => ⟨S8x128x32768, .bf16⟩
  | 75 => ⟨S8x32768, .bf16⟩
  | 76 => ⟨S8x1x32768, .bf16⟩
  | 77 => ⟨S8x128x32768, .bf16⟩
  | 78 => ⟨S8x128x32768, .bf16⟩
  | 79 => ⟨S1024x32768, .bf16⟩
  | 80 => ⟨S96x1x1024, .bf16⟩
  | 81 => ⟨S96x1x32768, .f32⟩
  | 82 => ⟨S_, .i32⟩
  | 83 => ⟨S1024x32768, .i32⟩
  | 84 => ⟨S1024x32768, .i32⟩
  | 85 => ⟨S_, .i32⟩
  | 86 => ⟨S1024x32768, .i32⟩
  | 87 => ⟨S1024x32768, .i32⟩
  | 88 => ⟨S1024x32768, .bf16⟩
  | 89 => ⟨S8x128x32768, .bf16⟩
  | 90 => ⟨S8x32768, .bf16⟩
  | 91 => ⟨S8x1x32768, .bf16⟩
  | 92 => ⟨S8x128x32768, .bf16⟩
  | 93 => ⟨S8x128x32768, .bf16⟩
  | 94 => ⟨S8x32768, .bf16⟩
  | 95 => ⟨S8x1x32768, .bf16⟩
  | 96 => ⟨S8x128x32768, .bf16⟩
  | 97 => ⟨S8x128x32768, .bf16⟩
  | 98 => ⟨S1024x32768, .bf16⟩
  | 99 => ⟨S96x1x1024, .bf16⟩
  | 100 => ⟨S96x1x32768, .f32⟩
  | 101 => ⟨S96x1x32768, .f32⟩
  | 102 => ⟨S_, .i32⟩
  | 103 => ⟨S1024x32768, .i32⟩
  | 104 => ⟨S1024x32768, .i32⟩
  | 105 => ⟨S_, .i32⟩
  | 106 => ⟨S1024x32768, .i32⟩
  | 107 => ⟨S1024x32768, .i32⟩
  | 108 => ⟨S1024x32768, .bf16⟩
  | 109 => ⟨S8x128x32768, .bf16⟩
  | 110 => ⟨S8x32768, .bf16⟩
  | 111 => ⟨S8x1x32768, .bf16⟩
  | 112 => ⟨S8x128x32768, .bf16⟩
  | 113 => ⟨S8x128x32768, .bf16⟩
  | 114 => ⟨S8x32768, .bf16⟩
  | 115 => ⟨S8x1x32768, .bf16⟩
  | 116 => ⟨S8x128x32768, .bf16⟩
  | 117 => ⟨S8x128x32768, .bf16⟩
  | 118 => ⟨S1024x32768, .bf16⟩
  | 119 => ⟨S96x1x1024, .bf16⟩
  | 120 => ⟨S96x1x32768, .f32⟩
  | 121 => ⟨S96x1x32768, .f32⟩
  | 122 => ⟨S_, .i32⟩
  | 123 => ⟨S1024x32768, .i32⟩
  | 124 => ⟨S1024x32768, .i32⟩
  | 125 => ⟨S_, .i32⟩
  | 126 => ⟨S1024x32768, .i32⟩
  | 127 => ⟨S1024x32768, .i32⟩
  | _ => ⟨S96x1x8192, .bf16⟩

abbrev hbmTy0_1 (i : Nat) : BufTy := match i % 128 with
  | 0 => ⟨S1024x32768, .bf16⟩
  | 1 => ⟨S8x128x32768, .bf16⟩
  | 2 => ⟨S8x32768, .bf16⟩
  | 3 => ⟨S8x1x32768, .bf16⟩
  | 4 => ⟨S8x128x32768, .bf16⟩
  | 5 => ⟨S8x128x32768, .bf16⟩
  | 6 => ⟨S8x32768, .bf16⟩
  | 7 => ⟨S8x1x32768, .bf16⟩
  | 8 => ⟨S8x128x32768, .bf16⟩
  | 9 => ⟨S8x128x32768, .bf16⟩
  | 10 => ⟨S1024x32768, .bf16⟩
  | 11 => ⟨S96x1x1024, .bf16⟩
  | 12 => ⟨S96x1x32768, .f32⟩
  | 13 => ⟨S96x1x32768, .f32⟩
  | 14 => ⟨S_, .i32⟩
  | 15 => ⟨S1024x32768, .i32⟩
  | 16 => ⟨S1024x32768, .i32⟩
  | 17 => ⟨S_, .i32⟩
  | 18 => ⟨S1024x32768, .i32⟩
  | 19 => ⟨S1024x32768, .i32⟩
  | 20 => ⟨S1024x32768, .bf16⟩
  | 21 => ⟨S8x128x32768, .bf16⟩
  | 22 => ⟨S8x32768, .bf16⟩
  | 23 => ⟨S8x1x32768, .bf16⟩
  | 24 => ⟨S8x128x32768, .bf16⟩
  | 25 => ⟨S8x128x32768, .bf16⟩
  | 26 => ⟨S8x32768, .bf16⟩
  | 27 => ⟨S8x1x32768, .bf16⟩
  | 28 => ⟨S8x128x32768, .bf16⟩
  | 29 => ⟨S8x128x32768, .bf16⟩
  | 30 => ⟨S1024x32768, .bf16⟩
  | 31 => ⟨S96x1x1024, .bf16⟩
  | 32 => ⟨S96x1x32768, .f32⟩
  | 33 => ⟨S96x1x32768, .f32⟩
  | 34 => ⟨S_, .i32⟩
  | 35 => ⟨S1024x32768, .i32⟩
  | 36 => ⟨S1024x32768, .i32⟩
  | 37 => ⟨S_, .i32⟩
  | 38 => ⟨S1024x32768, .i32⟩
  | 39 => ⟨S1024x32768, .i32⟩
  | 40 => ⟨S1024x32768, .bf16⟩
  | 41 => ⟨S8x128x32768, .bf16⟩
  | 42 => ⟨S8x32768, .bf16⟩
  | 43 => ⟨S8x1x32768, .bf16⟩
  | 44 => ⟨S8x128x32768, .bf16⟩
  | 45 => ⟨S8x128x32768, .bf16⟩
  | 46 => ⟨S8x32768, .bf16⟩
  | 47 => ⟨S8x1x32768, .bf16⟩
  | 48 => ⟨S8x128x32768, .bf16⟩
  | 49 => ⟨S8x128x32768, .bf16⟩
  | 50 => ⟨S1024x32768, .bf16⟩
  | 51 => ⟨S96x1x1024, .bf16⟩
  | 52 => ⟨S96x1x32768, .f32⟩
  | 53 => ⟨S96x1x32768, .f32⟩
  | 54 => ⟨S_, .i32⟩
  | 55 => ⟨S1024x32768, .i32⟩
  | 56 => ⟨S1024x32768, .i32⟩
  | 57 => ⟨S_, .i32⟩
  | 58 => ⟨S1024x32768, .i32⟩
  | 59 => ⟨S1024x32768, .i32⟩
  | 60 => ⟨S1024x32768, .bf16⟩
  | 61 => ⟨S8x128x32768, .bf16⟩
  | 62 => ⟨S8x32768, .bf16⟩
  | 63 => ⟨S8x1x32768, .bf16⟩
  | 64 => ⟨S8x128x32768, .bf16⟩
  | 65 => ⟨S8x128x32768, .bf16⟩
  | 66 => ⟨S8x32768, .bf16⟩
  | 67 => ⟨S8x1x32768, .bf16⟩
  | 68 => ⟨S8x128x32768, .bf16⟩
  | 69 => ⟨S8x128x32768, .bf16⟩
  | 70 => ⟨S1024x32768, .bf16⟩
  | 71 => ⟨S96x1x1024, .bf16⟩
  | 72 => ⟨S96x1x32768, .f32⟩
  | 73 => ⟨S96x1x32768, .f32⟩
  | 74 => ⟨S_, .i32⟩
  | 75 => ⟨S1024x32768, .i32⟩
  | 76 => ⟨S1024x32768, .i32⟩
  | 77 => ⟨S_, .i32⟩
  | 78 => ⟨S1024x32768, .i32⟩
  | 79 => ⟨S1024x32768, .i32⟩
  | 80 => ⟨S1024x32768, .bf16⟩
  | 81 => ⟨S8x128x32768, .bf16⟩
  | 82 => ⟨S8x32768, .bf16⟩
  | 83 => ⟨S8x1x32768, .bf16⟩
  | 84 => ⟨S8x128x32768, .bf16⟩
  | 85 => ⟨S8x128x32768, .bf16⟩
  | 86 => ⟨S8x32768, .bf16⟩
  | 87 => ⟨S8x1x32768, .bf16⟩
  | 88 => ⟨S8x128x32768, .bf16⟩
  | 89 => ⟨S8x128x32768, .bf16⟩
  | 90 => ⟨S1024x32768, .bf16⟩
  | 91 => ⟨S96x1x1024, .bf16⟩
  | 92 => ⟨S96x1x32768, .f32⟩
  | 93 => ⟨S96x1x32768, .f32⟩
  | 94 => ⟨S96x1x32768, .bf16⟩
  | _ => ⟨S96x1x8192, .bf16⟩

abbrev hbmTy (i : Nat) : BufTy := match i / 128 with
  | 0 => hbmTy0_0 i
  | 1 => hbmTy0_1 i
  | _ => ⟨S96x1x8192, .bf16⟩

abbrev bufTy : (tb : Table) → Fin (tcTables nBuf tb) → BufTy
  | .hbm, ⟨i, _⟩ => hbmTy i
  | _, _ => ⟨S96x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_c_7 : Ref sig .tc := ⟨.hbm, 28, rfl⟩
abbrev main_v16 : Ref sig .tc := ⟨.hbm, 29, rfl⟩
abbrev main_v17 : Ref sig .tc := ⟨.hbm, 30, rfl⟩
abbrev main_c_8 : Ref sig .tc := ⟨.hbm, 31, rfl⟩
abbrev main_v18 : Ref sig .tc := ⟨.hbm, 32, rfl⟩
abbrev main_v19 : Ref sig .tc := ⟨.hbm, 33, rfl⟩
abbrev main_c_9 : Ref sig .tc := ⟨.hbm, 34, rfl⟩
abbrev main_v20 : Ref sig .tc := ⟨.hbm, 35, rfl⟩
abbrev main_v21 : Ref sig .tc := ⟨.hbm, 36, rfl⟩
abbrev main_c_10 : Ref sig .tc := ⟨.hbm, 37, rfl⟩
abbrev main_v22 : Ref sig .tc := ⟨.hbm, 38, rfl⟩
abbrev main_v23 : Ref sig .tc := ⟨.hbm, 39, rfl⟩
abbrev main_c_11 : Ref sig .tc := ⟨.hbm, 40, rfl⟩
abbrev main_v24 : Ref sig .tc := ⟨.hbm, 41, rfl⟩
abbrev main_v25 : Ref sig .tc := ⟨.hbm, 42, rfl⟩
abbrev main_c_12 : Ref sig .tc := ⟨.hbm, 43, rfl⟩
abbrev main_v26 : Ref sig .tc := ⟨.hbm, 44, rfl⟩
abbrev main_v27 : Ref sig .tc := ⟨.hbm, 45, rfl⟩
abbrev main_c_13 : Ref sig .tc := ⟨.hbm, 46, rfl⟩
abbrev main_v28 : Ref sig .tc := ⟨.hbm, 47, rfl⟩
abbrev main_v29 : Ref sig .tc := ⟨.hbm, 48, rfl⟩
abbrev main_c_14 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_15 : Ref sig .tc := ⟨.hbm, 63, rfl⟩
abbrev main_v43 : Ref sig .tc := ⟨.hbm, 64, rfl⟩
abbrev main_v44 : Ref sig .tc := ⟨.hbm, 65, rfl⟩
abbrev main_c_16 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_17 : Ref sig .tc := ⟨.hbm, 82, rfl⟩
abbrev main_v60 : Ref sig .tc := ⟨.hbm, 83, rfl⟩
abbrev main_v61 : Ref sig .tc := ⟨.hbm, 84, rfl⟩
abbrev main_c_18 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_19 : Ref sig .tc := ⟨.hbm, 102, rfl⟩
abbrev main_v78 : Ref sig .tc := ⟨.hbm, 103, rfl⟩
abbrev main_v79 : Ref sig .tc := ⟨.hbm, 104, rfl⟩
abbrev main_c_20 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_c_21 : Ref sig .tc := ⟨.hbm, 122, rfl⟩
abbrev main_v96 : Ref sig .tc := ⟨.hbm, 123, rfl⟩
abbrev main_v97 : Ref sig .tc := ⟨.hbm, 124, rfl⟩
abbrev main_c_22 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_c_23 : Ref sig .tc := ⟨.hbm, 142, rfl⟩
abbrev main_v114 : Ref sig .tc := ⟨.hbm, 143, rfl⟩
abbrev main_v115 : Ref sig .tc := ⟨.hbm, 144, rfl⟩
abbrev main_c_24 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_c_25 : Ref sig .tc := ⟨.hbm, 162, rfl⟩
abbrev main_v132 : Ref sig .tc := ⟨.hbm, 163, rfl⟩
abbrev main_v133 : Ref sig .tc := ⟨.hbm, 164, rfl⟩
abbrev main_c_26 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_c_27 : Ref sig .tc := ⟨.hbm, 182, rfl⟩
abbrev main_v150 : Ref sig .tc := ⟨.hbm, 183, rfl⟩
abbrev main_v151 : Ref sig .tc := ⟨.hbm, 184, rfl⟩
abbrev main_c_28 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_c_29 : Ref sig .tc := ⟨.hbm, 202, rfl⟩
abbrev main_v168 : Ref sig .tc := ⟨.hbm, 203, rfl⟩
abbrev main_v169 : Ref sig .tc := ⟨.hbm, 204, rfl⟩
abbrev main_c_30 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩

abbrev nD : Nat := 1
abbrev τ : Topo := Topo.v7x

variable {F : FTy → Type} [FloatOps F]
-- ==== Proof.Hand.BodyBits.lean ====
/- The kernel's body at bits runs at every grid point: its inputs stay, its output block ends at some contents. -/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1532000 in
/-- The body's triple: on whole staging memrefs — the inputs' at their contents,
    the FORGOTTEN outputs' (4) at anything, handed back at some contents nothing names —
    the body runs to the continuation holding the inputs' as they were, the scratch at some contents: the printed functions are their skeletons (`Gen.*_eq_skeleton`),
    which `sl_exec` runs (Lib/Exec.lean). -/
theorem body_runs (c : Dev nD) (i : grid0.Coords) (arg1 : Memref sig .tc .vmem S96x8192 .bf16) (harg1 : arg1.IsWhole) (arg2 : Memref sig .tc .vmem S1024x1024 .i32) (harg2 : arg2.IsWhole) (arg3 : Memref sig .tc .vmem S64x1024 .bf16) (harg3 : arg3.IsWhole) (arg4 : Memref sig .tc .vmem S64x128 .i32) (harg4 : arg4.IsWhole) (arg5 : Memref sig .tc .vmem S96x1024 .bf16) (harg5 : arg5.IsWhole) (arg6 : Memref sig .tc .vmem S8x64x128 .bf16) (harg6 : arg6.IsWhole)
    (x0 : Vec F S96x8192 .bf16) (x1 : Vec F S1024x1024 .i32) (x2 : Vec F S64x1024 .bf16) (x3 : Vec F S64x128 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)) -∗ K ⟨⟩))
          ⊢ wp frame (wpE (defs₀ (F := F)) Variants.none c none) E (cc0_int4_linear i arg1 harg1 arg2 harg2 arg3 harg3 arg4 harg4 arg5 harg5 arg6 harg6) K := by
    intro E K
    simp only [cc0_int4_linear_eq_skeleton]; unfold cc0_int4_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    iexists _, _; isplitr; swap; · iexact HS0
    ipureintro; rfl

end Cert.Kernel.Gen

end
-- ==== Proof.Hand.FrameBits.lean ====
/- The frame of the kernel at bits: the proof data with the output forgotten, the body obligation from `body_runs`, the
   run and the frame claim. -/
module

public import proofs.«01_k».proof.Proof.Gen.Kernel.Frame
public import proofs.«01_k».proof.Proof.Hand.BodyBits
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## What the host writes after the region, and the frame claim from a run with the output forgotten -/

/-- The one buffer the host writes after the region. -/
def T0 : Finset (Ref sig .tc) := {main_v4}
/-- The lines after the region write no other buffer. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The frame claim's post from a run that states nothing of the output. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      (Pipeline.RDat.FramePostR.arr_in h c 2 rfl).trans ((hA c 2).trans (V_main_arg2 m c)),
      (Pipeline.RDat.FramePostR.arr_in h c 3 rfl).trans ((hA c 3).trans (V_main_arg3 m c))⟩) h

/-! ## The staging memrefs -/

/-- Each window's current staging memref at point `t`, spelled as the pipeline passes it (`bodyAt0`), and its wholeness. -/
abbrev ms0_0 (t : Fin cfg0.N) : Memref sig .tc .vmem S96x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x1024 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S8x64x128 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩⟩
  iapply ((body_runs c (grid0.coords t) _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, H4, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Hand.Block.lean ====
/- One grid point of the kernel as plain functions of what the point loads: the tile of zero points, the tile of
   scales, one group-row block's contribution to a 256-column accumulator, and the accumulator over all eight blocks. -/
module

public import proofs.«01_k».proof.Proof.Gen.KernelIdeal.Skeleton
public import Idealize.ShloMosaic.Lib.WholeRead
public import Idealize.ShloMosaic.Lib.Pointwise.Index

@[expose] public section

set_option maxRecDepth 16384

noncomputable section

namespace Cert.KernelIdeal.Gen

open Idealize.ShloMosaic Idealize.ShloMosaic.TcCoe

variable {F : FTy → Type} [FloatOps F]

/-- The lane number at every place of an 8 × 128 tile. -/
def laneNo : IVec S8x128 32 := iota .tc S8x128 32 [1] iota_S8x128_d1_w32

/-- The floor of the lane number divided by eight, as the kernel computes it: the truncated quotient, less one where the
    operands' signs differ and the remainder is not zero. -/
def laneDiv : IVec S8x128 32 :=
  have v109 : IVec S8x128 32 := subi (extui 32 (cmpi .sgt laneNo (broadcast S8x128 0#32)) natLt_1_32)
    (extui 32 (cmpi .slt laneNo (broadcast S8x128 0#32)) natLt_1_32)
  have v114 : BitVec 32 := Scalar.subi (Scalar.extui (Scalar.cmpi .sgt 8#32 0#32)) (Scalar.extui (Scalar.cmpi .slt 8#32 0#32))
  have v121 : IVec S8x128 1 := andi (cmpi .ne v109 (broadcast S8x128 v114))
    (cmpi .ne (remsi laneNo (broadcast S8x128 8#32)) (broadcast S8x128 0#32))
  have v102 : IVec S8x128 32 := divsi laneNo (broadcast S8x128 8#32)
  select v121 (subi v102 (broadcast S8x128 1#32)) v102

/-- The lane of a zero-point word each lane takes its nibble from, for the 128 columns that start at eight times `c`. -/
def wordLane (c : BitVec 32) : IVec S8x128 32 :=
  have v126 : IVec S8x128 32 := addi (broadcast S8x128 c) laneDiv
  select (cmpi .slt v126 (broadcast S8x128 0#32)) (addi v126 (broadcast S8x128 128#32)) v126

/-- The 8 × 128 tile of zero points unpacked from the words `u`, doubled to 16 rows. -/
def zeroTile (c : BitVec 32) (u : Vec F S8x128 .i32) : FVec F S16x128 .bf16 :=
  have v133 : IVec S8x128 32 := shapeCast S8x128 (shapeCast S8x128x1 (wordLane c) shapeCasts_S8x128_S8x128x1) shapeCasts_S8x128x1_S8x128
  have v137 : IVec S8x128 32 := andi (shrsi (dynamicGather 1 (u : IVec S8x128 32) v133) k0_pay2) (broadcast S8x128 15#32)
  have v139 : FVec F S8x128 .bf16 := truncf .bf16 (sitofp .f32 v137) bitsLt_bf16_f32
  concatenate S16x128 0 [⟨S8x128, v139⟩, ⟨S8x128, v139⟩] concatenates_S8x128_S8x128_S16x128_d0

/-- The 8 × 128 tile of scales: the rows of parity `p` of the loaded row pairs, doubled to 16 rows. -/
def scaleTile (p : Fin 2) (raw : Vec F S1x8x2x128 .bf16) : FVec F S16x128 .bf16 :=
  have v215 : FVec F S1x8x128 .bf16 := shapeCast S1x8x128 (rowsOfParity p S1x8x1x128 raw bitcasts_S1x8x2x128_w16_S1x8x1x128_w32) shapeCasts_S1x8x1x128_S1x8x128
  have v220 : FVec F S8x128 .bf16 := truncf .bf16 (extf .f32 (shapeCast S8x128 v215 shapeCasts_S1x8x128_S8x128)) bitsLt_bf16_f32
  concatenate S16x128 0 [⟨S8x128, v220⟩, ⟨S8x128, v220⟩] concatenates_S8x128_S8x128_S16x128_d0

/-- The 1024 × 256 codes unpacked from 128 × 256 words: row `8·r + f` is nibble `f` of word row `r`. -/
def codes (q : Vec F S128x256 .i32) : FVec F S1024x256 .bf16 :=
  sitofp .bf16 (shapeCast S1024x256
    (andi (shrsi (broadcastTo S128x8x256 (shapeCast S128x1x256 (q : IVec S128x256 32) shapeCasts_S128x256_S128x1x256) broadcasts_S128x1x256_S128x8x256)
        (muli (iota .tc S128x8x256 32 [1] iota_S128x8x256_d1_w32) (broadcast S128x8x256 4#32)))
      (broadcast S128x8x256 15#32)) shapeCasts_S128x8x256_S1024x256)

/-- The 1024 × 256 weights of one block: (code − zero) · scale, the 16-row tiles repeated down the block. -/
def weights (z s : FVec F S16x256 .bf16) (q : Vec F S128x256 .i32) : FVec F S1024x256 .bf16 :=
  shapeCast S1024x256
    (mulf (subf (shapeCast S64x16x256 (codes (F := F) q) shapeCasts_S1024x256_S64x16x256)
        (broadcastTo S64x16x256 (shapeCast S1x16x256 z shapeCasts_S16x256_S1x16x256) broadcasts_S1x16x256_S64x16x256))
      (broadcastTo S64x16x256 (shapeCast S1x16x256 s shapeCasts_S16x256_S1x16x256) broadcasts_S1x16x256_S64x16x256))
    shapeCasts_S64x16x256_S1024x256

/-- Two 16 × 128 tiles side by side. -/
def beside (a b : FVec F S16x128 .bf16) : FVec F S16x256 .bf16 :=
  concatenate S16x256 1 [⟨S16x128, a⟩, ⟨S16x128, b⟩] concatenates_S16x128_S16x128_S16x256_d1

/-- The accumulator after one more block. -/
def addBlock (acc : FVec F S96x256 .f32) (z s : FVec F S16x256 .bf16) (q : Vec F S128x256 .i32) (x : Vec F S96x1024 .bf16) : FVec F S96x256 .f32 :=
  addf acc (matmul dot_S96x1024_S1024x256_S96x256_1_0_0_1_n_n none
    (shapeCast S96x1024 (x : FVec F S96x1024 .bf16) shapeCasts_S96x1024_S96x1024) (weights z s q) (constant S96x256 .f32 0x00000000#32))

/-- The parity of a block's number. -/
def par (b : Fin 8) : Fin 2 := ⟨b.val % 2, Nat.mod_lt _ (by decide)⟩
/-- Half a block's number. -/
def half (b : Fin 8) : Fin 4 := ⟨b.val / 2, by omega⟩
/-- The 128-column chunk of a tile: chunk `h` of the 256-column piece `t`. -/
def chunk (t : Fin 4) (h : Fin 2) : Fin 8 := ⟨2 * t.val + h.val, by omega⟩
/-- The number of the first zero-point word of a chunk. -/
def wordBase (t : Fin 4) (h : Fin 2) : BitVec 32 := BitVec.ofNat 32 (32 * t.val + 16 * h.val)

/-- The accumulator of piece `t` after block `b`, over what the point loads: the zero-point words `qz`, the scale row
    pairs `sr`, the code words `q`, the columns of x `xc`. -/
def stepBlock (qz : Fin 8 → Vec F S8x128 .i32) (sr : Fin 8 → Fin 4 → Vec F S1x8x2x128 .bf16) (q : Fin 8 → Fin 4 → Vec F S128x256 .i32)
    (xc : Fin 8 → Vec F S96x1024 .bf16) (t : Fin 4) (b : Fin 8) (acc : FVec F S96x256 .f32) : FVec F S96x256 .f32 :=
  addBlock acc (beside (zeroTile (F := F) (wordBase t 0) (qz b)) (zeroTile (F := F) (wordBase t 1) (qz b)))
    (beside (scaleTile (par b) (sr (chunk t 0) (half b))) (scaleTile (par b) (sr (chunk t 1) (half b)))) (q b t) (xc b)

/-- The 96 × 256 piece `t` of the output block. -/
def outPiece (qz : Fin 8 → Vec F S8x128 .i32) (sr : Fin 8 → Fin 4 → Vec F S1x8x2x128 .bf16) (q : Fin 8 → Fin 4 → Vec F S128x256 .i32)
    (xc : Fin 8 → Vec F S96x1024 .bf16) (t : Fin 4) : FVec F S96x256 .bf16 :=
  truncf .bf16 (stepBlock qz sr q xc t 7 (stepBlock qz sr q xc t 6 (stepBlock qz sr q xc t 5 (stepBlock qz sr q xc t 4
    (stepBlock qz sr q xc t 3 (stepBlock qz sr q xc t 2 (stepBlock qz sr q xc t 1 (stepBlock qz sr q xc t 0
      (broadcast S96x256 (Scalar.ofBits .f32 0x00000000#32))))))))))  bitsLt_bf16_f32

/-- Where the point reads its zero-point words for block `b`: rows b, b + 8, …, b + 56. -/
def zeroRect (b : Fin 8) : LoadRect S64x128 := ⟨![b.val, 0], S8x128.size, ![8, 1], by revert b; decide⟩
/-- Where it reads its scale row pairs for chunk `c` and blocks 2·b, 2·b + 1. -/
def scaleRect (c : Fin 8) (b : Fin 4) : LoadRect S8x32x2x128 := ⟨![c.val, b.val, 0, 0], S1x8x2x128.size, ![1, 4, 1, 1], by revert c b; decide⟩
/-- Where it reads its code words for block `b` and piece `t`. -/
def codeRect (b : Fin 8) (t : Fin 4) : LoadRect S1024x1024 :=
  (Rect.unit (s := S1024x1024) ![128 * b.val, 256 * t.val] S128x256.size (by revert b t; decide)).toLoadRect
/-- Where it reads its columns of x for block `b`. -/
def xRect (b : Fin 8) : LoadRect S96x8192 := (Rect.unit (s := S96x8192) ![0, 1024 * b.val] S96x1024.size (by revert b; decide)).toLoadRect

/-- The whole 96 × 1024 output block, its four pieces side by side. -/
def outOf (qz : Fin 8 → Vec F S8x128 .i32) (sr : Fin 8 → Fin 4 → Vec F S1x8x2x128 .bf16) (q : Fin 8 → Fin 4 → Vec F S128x256 .i32)
    (xc : Fin 8 → Vec F S96x1024 .bf16) : Vec F S96x1024 .bf16 :=
  fun i => outPiece qz sr q xc ⟨(i 1).val / 256, Nat.div_lt_of_lt_mul (i 1).isLt⟩ (ix2 (i 0) ⟨(i 1).val % 256, Nat.mod_lt _ (by decide)⟩)

/-- The scratch after the point has copied its scales into it: plane `c` holds columns 128·c … 128·c + 127. -/
def scaleBuf (x2 : Vec F S64x1024 .bf16) : Vec F S8x64x128 .bf16 :=
  fun i => x2 (ix2 (i 1) ⟨128 * (i 0).val + (i 2).val, by have h0 : (i 0).val < 8 := (i 0).isLt; have h2 : (i 2).val < 128 := (i 2).isLt; show _ < 1024; omega⟩)

/-- The output block of a point as a function of its four input blocks. -/
def outBlk (x0 : Vec F S96x8192 .bf16) (x1 : Vec F S1024x1024 .i32) (x2 : Vec F S64x1024 .bf16) (x3 : Vec F S64x128 .i32) : Vec F S96x1024 .bf16 :=
  outOf (fun b j => x3 ((zeroRect b).idx j))
    (fun c b j => scaleBuf x2 (Shape.reshapeEquiv reshapes_S8x64x128_S8x32x2x128.1 ((scaleRect c b).idx j)))
    (fun b t j => x1 ((codeRect b t).idx j)) (fun b j => x0 ((xRect b).idx j))

/-! ## Reading the buffers -/

/-- The columns of the scales' block that plane `c` is copied from. -/
abbrev planeCols (c : ℕ) (h : ∀ a, ![0, 128 * c] a + S64x128.size a ≤ S64x1024.size a) : LoadRect S64x1024 :=
  (Rect.unit (s := S64x1024) ![0, 128 * c] S64x128.size h).toLoadRect

/-- A plane's payload at an index, when the scales' block is held at `x2`. -/
theorem plane_apply {arg3 : Memref sig .tc .vmem S64x1024 .bf16} (harg3 : arg3.IsWhole) (x2 : Vec F S64x1024 .bf16) (c : ℕ)
    (h : ∀ a, ![0, 128 * c] a + S64x128.size a ≤ S64x1024.size a) (h' : ∀ a, ![c, 0, 0] a + S1x64x128.size a ≤ S8x64x128.size a)
    (x : S1x64x128.Idx) :
    (shapeCast S1x64x128 (View.readAt (Elt F) arg3.view (planeCols c h) (harg3.unread x2) : Vec F S64x128 .bf16) shapeCasts_S64x128_S1x64x128 : Vec F S1x64x128 .bf16) x
      = scaleBuf x2 ((Rect.unit (s := S8x64x128) ![c, 0, 0] S1x64x128.size h').emb x) := by
  have e : ∀ j : S64x128.Idx, (View.readAt (Elt F) arg3.view (planeCols c h) (harg3.unread x2) : Vec F S64x128 .bf16) j
      = x2 ((planeCols c h).idx j) := fun j => congrFun (harg3.read_unread (Val := Elt F) x2) ((planeCols c h).idx j)
  refine (shapeCast_apply _ shapeCasts_S64x128_S1x64x128 x (ix2 (x 1) (x 2)) (by
    have h0 : (x 0).val < 1 := (x 0).isLt
    rw [Shape.rowMajor_val_two, Shape.rowMajor_val_three]
    show (x 1).val * 128 + (x 2).val = ((x 0).val * 64 + (x 1).val) * 128 + (x 2).val
    omega)).trans ((e _).trans ?_)
  unfold scaleBuf
  have h0 : (x 0).val < 1 := (x 0).isLt
  congr 1
  funext a
  match a with
  | 0 => exact Fin.ext (by show 0 + 1 * (x 1).val = 0 + 1 * (x 1).val; omega)
  | 1 => exact Fin.ext (by show 128 * c + 1 * (x 2).val = 128 * (c + 1 * (x 0).val) + (0 + 1 * (x 2).val); omega)

/-- After the eight planes are stored, the scratch reads `scaleBuf x2`, whatever it held before. -/
theorem scratch_read {arg3 : Memref sig .tc .vmem S64x1024 .bf16} (harg3 : arg3.IsWhole) (x2 : Vec F S64x1024 .bf16)
    {sp : Space} (v : View sig .tc sp S8x64x128 .bf16) (f : v.ty.Contents (Elt F)) (L : List (View.Piece (Elt F) S8x64x128 .bf16))
    (hL : ∀ p ∈ L, ∃ (c : ℕ) (h : ∀ a, ![0, 128 * c] a + S64x128.size a ≤ S64x1024.size a) (h' : ∀ a, ![c, 0, 0] a + S1x64x128.size a ≤ S8x64x128.size a),
      p = ⟨Rect.unit (s := S8x64x128) ![c, 0, 0] S1x64x128.size h',
        (shapeCast S1x64x128 (View.readAt (Elt F) arg3.view (planeCols c h) (harg3.unread x2) : Vec F S64x128 .bf16) shapeCasts_S64x128_S1x64x128 : Vec F S1x64x128 .bf16)⟩)
    (hcov : ∀ y : S8x64x128.Idx, ∃ p ∈ L, y ∈ p.1.set) :
    v.read (Elt F) (v.writes (Elt F) f L) = scaleBuf x2 :=
  funext fun y => View.read_writes_apply_of_pieces v f (scaleBuf x2) L (fun p hp => by
    obtain ⟨c, h, h', rfl⟩ := hL p hp
    exact plane_apply harg3 x2 c h h') y (hcov y)

/-- After the four pieces are stored, the output block reads `outOf`, whatever it held before. -/
theorem out_read (qz : Fin 8 → Vec F S8x128 .i32) (sr : Fin 8 → Fin 4 → Vec F S1x8x2x128 .bf16) (q : Fin 8 → Fin 4 → Vec F S128x256 .i32)
    (xc : Fin 8 → Vec F S96x1024 .bf16)
    {sp : Space} (v : View sig .tc sp S96x1024 .bf16) (f : v.ty.Contents (Elt F)) (L : List (View.Piece (Elt F) S96x1024 .bf16))
    (hL : ∀ p ∈ L, ∃ (t : Fin 4) (h : ∀ a, ![0, 256 * t.val] a + S96x256.size a ≤ S96x1024.size a),
      p = ⟨Rect.unit (s := S96x1024) ![0, 256 * t.val] S96x256.size h, outPiece qz sr q xc t⟩)
    (hcov : ∀ y : S96x1024.Idx, ∃ p ∈ L, y ∈ p.1.set) :
    v.read (Elt F) (v.writes (Elt F) f L) = outOf qz sr q xc :=
  funext fun y => View.read_writes_apply_of_pieces v f (outOf qz sr q xc) L (fun p hp => by
    obtain ⟨t, h, rfl⟩ := hL p hp
    intro x
    have h1 : (x 1).val < 256 := (x 1).isLt
    have e0 : (⟨(256 * t.val + 1 * (x 1).val) / 256, by omega⟩ : Fin 4) = t := Fin.ext (by show _ / 256 = _; omega)
    have e1 : (ix2 (x 0) (⟨(256 * t.val + 1 * (x 1).val) % 256, Nat.mod_lt _ (by decide)⟩ : Fin 256) : S96x256.Idx) = x := by
      funext a
      match a with
      | 0 => rfl
      | 1 => exact Fin.ext (by show _ % 256 = _; omega)
    show outPiece qz sr q xc t x = outPiece qz sr q xc (⟨(256 * t.val + 1 * (x 1).val) / 256, _⟩ : Fin 4)
      (ix2 _ (⟨(256 * t.val + 1 * (x 1).val) % 256, _⟩ : Fin 256))
    rw [e0]
    refine congrArg _ (e1.symm.trans ?_)
    funext a
    match a with
    | 0 => exact Fin.ext (by show (x 0).val = 0 + 1 * (x 0).val; omega)
    | 1 => rfl) y (hcov y)

/-- What a point leaves in its output block is `outBlk` of the input blocks. -/
theorem outOf_loads {arg1 : Memref sig .tc .vmem S96x8192 .bf16} (harg1 : arg1.IsWhole) {arg2 : Memref sig .tc .vmem S1024x1024 .i32} (harg2 : arg2.IsWhole)
    {arg4 : Memref sig .tc .vmem S64x128 .i32} (harg4 : arg4.IsWhole) {arg6 : Memref sig .tc .vmem S8x64x128 .bf16} (harg6 : arg6.IsWhole)
    (x0 : Vec F S96x8192 .bf16) (x1 : Vec F S1024x1024 .i32) (x2 : Vec F S64x1024 .bf16) (x3 : Vec F S64x128 .i32)
    (f6 : arg6.view.ty.Contents (Elt F)) (h6 : arg6.view.read (Elt F) f6 = scaleBuf x2) :
    outOf (fun b => View.readAt (Elt F) arg4.view (zeroRect b) (harg4.unread x3))
      (fun ch b => View.readAt (Elt F) (arg6.reshape S8x32x2x128 reshapes_S8x64x128_S8x32x2x128.1 reshapes_S8x64x128_S8x32x2x128.2 harg6.contiguous).view
        (scaleRect ch b) f6)
      (fun b t => View.readAt (Elt F) arg2.view (codeRect b t) (harg2.unread x1))
      (fun b => View.readAt (Elt F) arg1.view (xRect b) (harg1.unread x0)) = outBlk x0 x1 x2 x3 := by
  unfold outBlk
  rw [show (fun b => View.readAt (Elt F) arg4.view (zeroRect b) (harg4.unread x3)) = (fun b j => x3 ((zeroRect b).idx j)) from
      funext fun b => funext fun j => congrFun (harg4.read_unread (Val := Elt F) x3) _,
    show (fun b t => View.readAt (Elt F) arg2.view (codeRect b t) (harg2.unread x1)) = (fun b t j => x1 ((codeRect b t).idx j)) from
      funext fun b => funext fun t => funext fun j => congrFun (harg2.read_unread (Val := Elt F) x1) _,
    show (fun b => View.readAt (Elt F) arg1.view (xRect b) (harg1.unread x0)) = (fun b j => x0 ((xRect b).idx j)) from
      funext fun b => funext fun j => congrFun (harg1.read_unread (Val := Elt F) x0) _,
    show (fun ch b => View.readAt (Elt F) (arg6.reshape S8x32x2x128 reshapes_S8x64x128_S8x32x2x128.1 reshapes_S8x64x128_S8x32x2x128.2 harg6.contiguous).view
        (scaleRect ch b) f6) = (fun c b j => scaleBuf x2 (Shape.reshapeEquiv reshapes_S8x64x128_S8x32x2x128.1 ((scaleRect c b).idx j))) from
      funext fun c => funext fun b => funext fun j => congrFun h6 _]
  rfl

end Cert.KernelIdeal.Gen

end
-- ==== Proof.Hand.BodyIdeal.lean ====
/- The idealized kernel's body runs at every grid point: its inputs stay, its output block ends at `outBlk` of them. -/
module

public import proofs.«01_k».proof.Proof.Gen.KernelIdeal.Frame
public import proofs.«01_k».proof.Proof.Gen.KernelIdeal.Skeleton
public import proofs.«01_k».proof.Proof.Hand.Block

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1532000 in
/-- The body's triple: on whole staging memrefs, the inputs' at their contents, the output's at anything, the body
    runs to the continuation holding the inputs' as they were, the output at `outBlk` of them, the scratch at some
    contents. -/
theorem body_runs (c : Dev nD) (i : grid0.Coords) (arg1 : Memref sig .tc .vmem S96x8192 .bf16) (harg1 : arg1.IsWhole) (arg2 : Memref sig .tc .vmem S1024x1024 .i32) (harg2 : arg2.IsWhole) (arg3 : Memref sig .tc .vmem S64x1024 .bf16) (harg3 : arg3.IsWhole) (arg4 : Memref sig .tc .vmem S64x128 .i32) (harg4 : arg4.IsWhole) (arg5 : Memref sig .tc .vmem S96x1024 .bf16) (harg5 : arg5.IsWhole) (arg6 : Memref sig .tc .vmem S8x64x128 .bf16) (harg6 : arg6.IsWhole)
    (x0 : Vec F S96x8192 .bf16) (x1 : Vec F S1024x1024 .i32) (x2 : Vec F S64x1024 .bf16) (x3 : Vec F S64x128 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x0 x1 x2 x3) ∗ (∃ d, owns (c : Thread nD τ) arg6 fullShare d)) -∗ K ⟨⟩))
          ⊢ wp frame (wpE (defs₀ (F := F)) Variants.none c none) E (cc0_int4_linear i arg1 harg1 arg2 harg2 arg3 harg3 arg4 harg4 arg5 harg5 arg6 harg6) K := by
    intro E K
    simp only [cc0_int4_linear_eq_skeleton]; unfold cc0_int4_linear_skel
    simp only [k0_part90_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (out_read _ _ _ _ arg5.view f4 _ ?hL ?hcov).trans (outOf_loads harg1 harg2 harg4 harg6 x0 x1 x2 x3
        (arg6.view.writes (Elt F) arg6.view.junk (body_runs.sl.HS0_8 c arg3 harg3 x2))
        (scratch_read harg3 x2 arg6.view _ _ ?hS ?hScov))
      case hcov => exact View.cover_of_tiled _ ![96, 256] rfl
      case hScov => exact View.cover_of_tiled _ ![1, 64, 128] rfl
      case hS =>
        exact List.forall_mem_cons.2 ⟨⟨7, by decide, by decide, rfl⟩, List.forall_mem_cons.2 ⟨⟨6, by decide, by decide, rfl⟩,
          List.forall_mem_cons.2 ⟨⟨5, by decide, by decide, rfl⟩, List.forall_mem_cons.2 ⟨⟨4, by decide, by decide, rfl⟩,
          List.forall_mem_cons.2 ⟨⟨3, by decide, by decide, rfl⟩, List.forall_mem_cons.2 ⟨⟨2, by decide, by decide, rfl⟩,
          List.forall_mem_cons.2 ⟨⟨1, by decide, by decide, rfl⟩, List.forall_mem_cons.2 ⟨⟨0, by decide, by decide, rfl⟩,
          fun _ h => absurd h List.not_mem_nil⟩⟩⟩⟩⟩⟩⟩⟩
      case hL =>
        exact List.forall_mem_cons.2 ⟨⟨3, by decide, rfl⟩, List.forall_mem_cons.2 ⟨⟨2, by decide, rfl⟩,
          List.forall_mem_cons.2 ⟨⟨1, by decide, rfl⟩, List.forall_mem_cons.2 ⟨⟨0, by decide, rfl⟩,
          fun _ h => absurd h List.not_mem_nil⟩⟩⟩⟩
    iexists _, _; isplitr; swap; · iexact HS0
    ipureintro; rfl

end Cert.KernelIdeal.Gen

end
-- ==== Proof.Hand.FrameIdeal.lean ====
/- The frame of the idealized kernel: the proof data with the output named, the body obligation from `body_runs`, the run
   and the frame claim. -/
module

public import proofs.«01_k».proof.Proof.Gen.KernelIdeal.Frame
public import proofs.«01_k».proof.Proof.Hand.BodyIdeal
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The staging memrefs -/

/-- Each window's current staging memref at point `t`, spelled as the pipeline passes it (`bodyAt0`), and its wholeness. -/
abbrev ms0_0 (t : Fin cfg0.N) : Memref sig .tc .vmem S96x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x1024 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S8x64x128 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- The proof data of the one pipeline on core `c`: the arrays as the region finds them (`V`); after the body at
    point `t` each input's buffer at its block and the output's at `outBlk` of the four blocks; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outBlk (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩⟩
  iapply ((body_runs c (grid0.coords t) _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, H4, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- The launch: every weakly fair execution of @main on the TensorCores terminates; at every final state each array of
    the pipeline holds its entry contents overwritten block by block by what the body leaves, every other buffer what
    the host's last line leaves, and every semaphore counter is zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Hand.Spec.lean ====
/- The vocabulary of the value claim: a nibble of a word as a number, one product of the matrix multiplication with the
   dequantized weights, and the order of summation. -/
module

public import Idealize.ShloMosaic.Lib.Pointwise

@[expose] public section

noncomputable section

namespace Cert.Int4

open Idealize.ShloMosaic

/-- Nibble `f` of the word `w`, an integer 0 … 15, as an extended real. -/
def nib (w : BitVec 32) (f : ℕ) : EReal := (((w.sshiftRight (4 * f) &&& 15#32).toInt : ℝ) : EReal)

/-- One product of result element `(m, n)`: input row `1024 j + r` times the weight that nibble `j` of weight word
    `(r, n)` encodes. Its zero point is nibble `n % 8` of the zero word of group `8 j + r / 128` at column `n / 8`, and
    its scale is the scale of that group at column `n`. -/
def term (x : Vec Ideal ⟨3, ![96, 1, 8192]⟩ .bf16) (q : Vec Ideal ⟨2, ![1024, 32768]⟩ .i32)
    (s : Vec Ideal ⟨2, ![64, 32768]⟩ .bf16) (z : Vec Ideal ⟨2, ![64, 4096]⟩ .i32)
    (m : Fin 96) (n : Fin 32768) (j : Fin 8) (r : Fin 1024) : EReal :=
  (x (ix3 m 0 ⟨1024 * j.val + r.val, by omega⟩) : EReal) *
    ((nib (q (ix2 r n)) j.val - nib (z (ix2 ⟨8 * j.val + r.val / 128, by omega⟩ ⟨n.val / 8, by omega⟩)) (n.val % 8))
      * s (ix2 ⟨8 * j.val + r.val / 128, by omega⟩ n))

/-- Summing over blocks of 128 word rows and then over the 1024 nibbles of a block, eight of a word after one another,
    is summing over the nibbles of a word and then over all 1024 word rows. -/
theorem sum_blocks {M : Type} [AddCommMonoid M] (T : Fin 8 → Fin 1024 → M) :
    (∑ b : Fin 8, ∑ k : Fin 1024, T ⟨k.val % 8, by omega⟩ ⟨128 * b.val + k.val / 8, by omega⟩)
      = ∑ j : Fin 8, ∑ r : Fin 1024, T j r := by
  rw [← Fintype.sum_prod_type', ← Fintype.sum_prod_type']
  refine Finset.sum_nbij' (fun p => (⟨p.2.val % 8, by omega⟩, ⟨128 * p.1.val + p.2.val / 8, by omega⟩))
    (fun p => (⟨p.2.val / 128, by omega⟩, ⟨8 * (p.2.val % 128) + p.1.val, by omega⟩)) ?_ ?_ ?_ ?_ ?_
  · intros; simp
  · intros; simp
  · rintro ⟨b, k⟩ -
    refine Prod.ext (Fin.ext ?_) (Fin.ext ?_)
    · show (128 * b.val + k.val / 8) / 128 = b.val
      omega
    · show 8 * ((128 * b.val + k.val / 8) % 128) + k.val % 8 = k.val
      omega
  · rintro ⟨j, r⟩ -
    refine Prod.ext (Fin.ext ?_) (Fin.ext ?_)
    · show (8 * (r.val % 128) + j.val) % 8 = j.val
      omega
    · show 128 * (r.val / 128) + (8 * (r.val % 128) + j.val) / 8 = r.val
      omega
  · intros; rfl

end Cert.Int4

end
-- ==== Proof.Hand.RefValue.lean ====
/- What the reference computes: its result element `(m, 0, n)` is the sum, over the eight nibbles of a word and then over the
   1024 word rows, of the products of the matrix multiplication (`Cert.Int4.term`). -/
module

public import proofs.«01_k».proof.Proof.Gen.ReferenceIdeal.Run
public import proofs.«01_k».proof.Proof.Hand.Spec

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo Cert.Int4

/-- Shifting right by `4 f` on the host and masking is taking nibble `f`. -/
theorem host_nib (w : BitVec 32) (f : ℕ) (hf : f < 8) (s : BitVec 32) (hs : s.toNat = 4 * f) :
    (((IntOp.andi (IntOp.shrsi ArithUnit.host w s) 15#32).toInt : ℝ) : EReal) = nib w f := by
  unfold IntOp.andi IntOp.shrsi nib
  rw [if_pos (by omega), BitVec.sshiftRight', hs]

/-- One nibble's part of the result: the input columns from `o` on times the weights of the nibble at bit `sh`, whose groups
    start at group `g`. -/
def part (x : FVec Ideal S96x1x8192 .bf16) (q : IVec S1024x32768 32) (s z : FVec Ideal S64x32768 .bf16) (o g : ℕ) (sh : BitVec 32) (hx : S96x1x8192.Slices ![0, 0, o] S96x1x1024)
    (hs : S64x32768.Slices ![g, 0] S8x32768) : Vec Ideal S96x1x32768 .f32 :=
  (Host.dotGeneral (F := Ideal) dot_S96x1x1024_S1024x32768_S96x1x32768_2_0_01_1_n_n none (extractStridedSlice S96x1x1024 ![0, 0, o] x hx) (shapeCast _ (mulf (subf (shapeCast _ (sitofp .bf16 (andi (Host.shrsi q (broadcastInDim S1024x32768 ![] bcast_S_S1024x32768 (constantI S_ 32 sh))) (broadcastInDim S1024x32768 ![] bcast_S_S1024x32768 (constantI S_ 32 15#32)))) shapeCasts_S1024x32768_S8x128x32768) (broadcastInDim S8x128x32768 ![0, 1, 2] bcast_S8x1x32768_S8x128x32768_0_1_2 (broadcastInDim S8x1x32768 ![0, 2] bcast_S8x32768_S8x1x32768_0_2 (extractStridedSlice S8x32768 ![g, 0] z hs)))) (broadcastInDim S8x128x32768 ![0, 1, 2] bcast_S8x1x32768_S8x128x32768_0_1_2 (broadcastInDim S8x1x32768 ![0, 2] bcast_S8x32768_S8x1x32768_0_2 (extractStridedSlice S8x32768 ![g, 0] s hs)))) shapeCasts_S8x128x32768_S1024x32768))

/-- The reference's sum is the sum of its eight parts. -/
theorem parts (V0 : Valuation τ sig (Elt Ideal)) : res_main_v185 V0 =
    let P := part (V0 (Proc.devRef .tc main_arg0)) (V0 (Proc.devRef .tc main_arg1)) (V0 (Proc.devRef .tc main_arg2)) (res_main_v42 V0)
    (
    addf (addf (addf (addf (addf (addf (addf
      (P 0 0 0#32 slices_S96x1x8192_S96x1x1024_0_0_0 slices_S64x32768_S8x32768_0_0)
      (P 1024 8 4#32 slices_S96x1x8192_S96x1x1024_0_0_1024 slices_S64x32768_S8x32768_8_0))
      (P 2048 16 8#32 slices_S96x1x8192_S96x1x1024_0_0_2048 slices_S64x32768_S8x32768_16_0))
      (P 3072 24 12#32 slices_S96x1x8192_S96x1x1024_0_0_3072 slices_S64x32768_S8x32768_24_0))
      (P 4096 32 16#32 slices_S96x1x8192_S96x1x1024_0_0_4096 slices_S64x32768_S8x32768_32_0))
      (P 5120 40 20#32 slices_S96x1x8192_S96x1x1024_0_0_5120 slices_S64x32768_S8x32768_40_0))
      (P 6144 48 24#32 slices_S96x1x8192_S96x1x1024_0_0_6144 slices_S64x32768_S8x32768_48_0))
      (P 7168 56 28#32 slices_S96x1x8192_S96x1x1024_0_0_7168 slices_S64x32768_S8x32768_56_0) : FVec Ideal S96x1x32768 .f32) := rfl

/-- The zero point of group `g` at column `n`: nibble `n % 8` of the zero word at column `n / 8`. -/
theorem zeros_apply (V0 : Valuation τ sig (Elt Ideal)) (g : Fin 64) (n : Fin 32768) :
    (res_main_v42 V0 (ix2 g n) : EReal) = nib (V0 (Proc.devRef .tc main_arg3) (ix2 g ⟨n.val / 8, by omega⟩)) (n.val % 8) := by
  pointwise [res_main_v42]
  split_ifs
  all_goals refine host_nib _ _ (by omega) _ ?_
  all_goals simp only [BitVec.toNat_ofNat]
  all_goals omega

/-- A part's element `(m, 0, n)`: the sum over the word rows of one nibble. -/
theorem part_apply (x : FVec Ideal S96x1x8192 .bf16) (q : IVec S1024x32768 32) (s z : FVec Ideal S64x32768 .bf16)
    (j : Fin 8) (o g : ℕ) (ho : o = 1024 * j.val) (hg : g = 8 * j.val)
    (sh : BitVec 32) (hsh : sh.toNat = 4 * j.val) (hx : S96x1x8192.Slices ![0, 0, o] S96x1x1024)
    (hs : S64x32768.Slices ![g, 0] S8x32768) (m : Fin 96) (n : Fin 32768) :
    (part x q s z o g sh hx hs (ix3 m 0 n) : EReal) = ∑ r : Fin 1024,
      (x (ix3 m 0 ⟨1024 * j.val + r.val, by omega⟩) : EReal) * ((nib (q (ix2 r n)) j.val - z (ix2 ⟨8 * j.val + r.val / 128, by omega⟩ n))
        * s (ix2 ⟨8 * j.val + r.val / 128, by omega⟩ n)) := by
  subst ho hg
  pointwise [part]
  refine Finset.sum_congr rfl fun r _ => congrArg₂ (· * ·) rfl (congrArg₂ (· * ·) (congrArg₂ (· - ·) ?_ rfl) rfl)
  exact host_nib _ _ j.isLt _ hsh

/-- A part of the reference's own sum at `(m, 0, n)`, in the products of the specification. -/
theorem part_term (V0 : Valuation τ sig (Elt Ideal))
    (j : Fin 8) (o g : ℕ) (ho : o = 1024 * j.val) (hg : g = 8 * j.val)
    (sh : BitVec 32) (hsh : sh.toNat = 4 * j.val) (hx : S96x1x8192.Slices ![0, 0, o] S96x1x1024)
    (hs : S64x32768.Slices ![g, 0] S8x32768) (m : Fin 96) (n : Fin 32768) :
    (part (V0 (Proc.devRef .tc main_arg0)) (V0 (Proc.devRef .tc main_arg1)) (V0 (Proc.devRef .tc main_arg2)) (res_main_v42 V0)
        o g sh hx hs (ix3 m 0 n) : EReal)
      = ∑ r : Fin 1024, term (V0 (Proc.devRef .tc main_arg0))
        (V0 (Proc.devRef .tc main_arg1)) (V0 (Proc.devRef .tc main_arg2)) (V0 (Proc.devRef .tc main_arg3)) m n j r := by
  rw [part_apply _ _ _ _ j o g ho hg sh hsh hx hs m n]
  refine Finset.sum_congr rfl fun r _ => ?_
  rw [zeros_apply]
  rfl

/-- The reference's sum at `(m, 0, n)`: over the eight nibbles and then the 1024 word rows. -/
theorem sum_apply (V0 : Valuation τ sig (Elt Ideal)) (m : Fin 96) (n : Fin 32768) :
    (res_main_v185 V0 (ix3 m 0 n) : EReal) = ∑ j : Fin 8, ∑ r : Fin 1024, term (V0 (Proc.devRef .tc main_arg0))
      (V0 (Proc.devRef .tc main_arg1)) (V0 (Proc.devRef .tc main_arg2)) (V0 (Proc.devRef .tc main_arg3)) m n j r := by
  rw [parts, Fin.sum_univ_eight,
    ← part_term V0 0 0 0 rfl rfl 0#32 rfl slices_S96x1x8192_S96x1x1024_0_0_0 slices_S64x32768_S8x32768_0_0,
    ← part_term V0 1 1024 8 rfl rfl 4#32 rfl slices_S96x1x8192_S96x1x1024_0_0_1024 slices_S64x32768_S8x32768_8_0,
    ← part_term V0 2 2048 16 rfl rfl 8#32 rfl slices_S96x1x8192_S96x1x1024_0_0_2048 slices_S64x32768_S8x32768_16_0,
    ← part_term V0 3 3072 24 rfl rfl 12#32 rfl slices_S96x1x8192_S96x1x1024_0_0_3072 slices_S64x32768_S8x32768_24_0,
    ← part_term V0 4 4096 32 rfl rfl 16#32 rfl slices_S96x1x8192_S96x1x1024_0_0_4096 slices_S64x32768_S8x32768_32_0,
    ← part_term V0 5 5120 40 rfl rfl 20#32 rfl slices_S96x1x8192_S96x1x1024_0_0_5120 slices_S64x32768_S8x32768_40_0,
    ← part_term V0 6 6144 48 rfl rfl 24#32 rfl slices_S96x1x8192_S96x1x1024_0_0_6144 slices_S64x32768_S8x32768_48_0,
    ← part_term V0 7 7168 56 rfl rfl 28#32 rfl slices_S96x1x8192_S96x1x1024_0_0_7168 slices_S64x32768_S8x32768_56_0]
  rfl

end Cert.ReferenceIdeal.Value

end
-- ==== Proof.Hand.BlockIdeal.lean ====
/- One grid point of the idealized kernel at an index: every entry of the tiles, of the weights, of a block's contribution
   and of the output block, as extended reals. The last theorem, `outBlk_apply`, is the one that the value proof uses. -/
module

public import proofs.«01_k».proof.Proof.Hand.Block
public import proofs.«01_k».proof.Proof.Hand.Spec
public import Idealize.ShloMosaic.Lib.Pointwise

@[expose] public section

set_option maxRecDepth 16384

noncomputable section

namespace Cert.KernelIdeal.Gen

open Idealize.ShloMosaic Idealize.ShloMosaic.TcCoe Cert.Int4

/-- Shifting a word right by `4 f` bits and keeping its low four bits is taking nibble `f`. -/
theorem shift_nib (w : BitVec 32) (f : ℕ) (hf : f < 8) (s : BitVec 32) (hs : s.toNat = 4 * f) :
    IntOp.andi (IntOp.shrsi ArithUnit.vector w s) 15#32 = w.sshiftRight (4 * f) &&& 15#32 := by
  unfold IntOp.andi IntOp.shrsi
  rw [if_pos (by omega), BitVec.sshiftRight', hs]

/-- Row `k` of a block's codes is nibble `k % 8` of word row `k / 8`. -/
theorem codes_apply (q : Vec Ideal S128x256 .i32) (k : Fin 1024) (c : Fin 256) :
   codes (F := Ideal) q (ix2 k c) = nib (q (ix2 ⟨k.val / 8, by omega⟩ c)) (k.val % 8) := by
  pointwise [codes]
  rw [shift_nib _ (k.val % 8) (by omega) _ (by
    unfold IntOp.muli
    simp only [BitVec.toNat_mul, BitVec.toNat_ofNat]; omega)]
  rfl

/-- The shift amounts: four times the lane's remainder by eight. -/
theorem pay2_apply : ∀ (r : Fin 8) (c : Fin 128), (k0_pay2 (ix2 r c)).toNat = 4 * (c.val % 8) := by
  intro r c
  pointwise [k0_pay2]
  revert c
  decide

/-- The lane number divided by eight. -/
theorem laneDiv_apply : ∀ (r : Fin 8) (c : Fin 128), laneDiv (ix2 r c) = BitVec.ofNat 32 (c.val / 8) := by
  intro r c
  pointwise [laneDiv, laneNo]
  revert c
  decide

/-- The lane of a zero-point word. -/
theorem wordLane_apply (t : Fin 4) (h : Fin 2) (r : Fin 8) (c : Fin 128) :
    (wordLane (wordBase t h) (ix2 r c)).toNat = 32 * t.val + 16 * h.val + c.val / 8 := by
  pointwise [wordLane, wordBase]
  rw [laneDiv_apply]
  have e : ∀ (t : Fin 4) (h : Fin 2) (d : Fin 16),
      (Scalar.select (IntOp.cmpi CmpIPredicate.slt (IntOp.addi (BitVec.ofNat 32 (32 * t.val + 16 * h.val)) (BitVec.ofNat 32 d.val)) 0#32)
        (IntOp.addi (IntOp.addi (BitVec.ofNat 32 (32 * t.val + 16 * h.val)) (BitVec.ofNat 32 d.val)) 128#32)
        (IntOp.addi (BitVec.ofNat 32 (32 * t.val + 16 * h.val)) (BitVec.ofNat 32 d.val))).toNat = 32 * t.val + 16 * h.val + d.val := by decide
  exact e t h ⟨c.val / 8, by omega⟩

/-- A zero-point tile at an index: nibble `c % 8` of the word that serves the lane, on the row's remainder by eight. -/
theorem zero_apply (t : Fin 4) (h : Fin 2) (u : Vec Ideal S8x128 .i32) (k : Fin 16) (c : Fin 128) :
    zeroTile (F := Ideal) (wordBase t h) u (ix2 k c)
      = nib (u (ix2 ⟨k.val % 8, by omega⟩ ⟨32 * t.val + 16 * h.val + c.val / 8, by omega⟩)) (c.val % 8) := by
  pointwise [zeroTile]
  split
  · rw [shift_nib _ (c.val % 8) (by omega) _ (pay2_apply _ c)]
    unfold nib
    have e0 : (⟨k.val, by omega⟩ : Fin 8) = ⟨k.val % 8, by omega⟩ := Fin.ext (by show k.val = k.val % 8; omega)
    have e1 : ∀ r : Fin 8, (⟨(wordLane (wordBase t h) (ix2 r c)).toNat % 128, Nat.mod_lt _ (by decide)⟩ : Fin 128)
        = ⟨32 * t.val + 16 * h.val + c.val / 8, by omega⟩ := fun r => Fin.ext (by
      show (wordLane (wordBase t h) (ix2 r c)).toNat % 128 = 32 * t.val + 16 * h.val + c.val / 8
      rw [wordLane_apply]; omega)
    rw [e1, e0]; rfl
  · rw [shift_nib _ (c.val % 8) (by omega) _ (pay2_apply _ c)]
    unfold nib
    have e0 : (⟨k.val - 8, by omega⟩ : Fin 8) = ⟨k.val % 8, by omega⟩ := Fin.ext (by show k.val - 8 = k.val % 8; omega)
    have e1 : ∀ r : Fin 8, (⟨(wordLane (wordBase t h) (ix2 r c)).toNat % 128, Nat.mod_lt _ (by decide)⟩ : Fin 128)
        = ⟨32 * t.val + 16 * h.val + c.val / 8, by omega⟩ := fun r => Fin.ext (by
      show (wordLane (wordBase t h) (ix2 r c)).toNat % 128 = 32 * t.val + 16 * h.val + c.val / 8
      rw [wordLane_apply]; omega)
    rw [e1, e0]; rfl

/-- A scale tile at an index: the row of parity `p` of the row pair, on the row's remainder by eight. -/
theorem scale_apply (p : Fin 2) (u : Vec Ideal S1x8x2x128 .bf16) (k : Fin 16) (c : Fin 128) :
   scaleTile (F := Ideal) p u (ix2 k c) = u (ix4 0 ⟨k.val % 8, by omega⟩ p c) := by
  pointwise [scaleTile]
  split
  · congr 2; exact Fin.ext (by show k.val = k.val % 8; omega)
  · congr 2; exact Fin.ext (by show k.val - 8 = k.val % 8; omega)

/-- Two tiles side by side at an index: the left one below column 128, the right one from there on. -/
theorem beside_apply (a b : FVec Ideal S16x128 .bf16) (k : Fin 16) (c : Fin 256) :
   beside a b (ix2 k c) = if c.val < 128 then a (ix2 k ⟨c.val % 128, by omega⟩) else b (ix2 k ⟨c.val % 128, by omega⟩) := by
  pointwise [beside]
  split
  · congr 2; exact Fin.ext (by show c.val = c.val % 128; omega)
  · congr 2; exact Fin.ext (by show c.val - 128 = c.val % 128; omega)

/-- A weight at an index: (code − zero) · scale, the tiles' rows repeating every sixteen. -/
theorem weights_apply (z s : FVec Ideal S16x256 .bf16) (q : Vec Ideal S128x256 .i32) (k : Fin 1024) (c : Fin 256) :
   weights z s q (ix2 k c) = (nib (q (ix2 ⟨k.val / 8, by omega⟩ c)) (k.val % 8) - z (ix2 ⟨k.val % 16, by omega⟩ c)) * s (ix2 ⟨k.val % 16, by omega⟩ c) := by
  pointwise [weights]
  rw [codes_apply]
/-- The accumulator after one more block at an index: the old value plus the sum over the block's 1024 rows. -/
theorem add_apply (acc : FVec Ideal S96x256 .f32) (z s : FVec Ideal S16x256 .bf16) (q : Vec Ideal S128x256 .i32) (x : Vec Ideal S96x1024 .bf16) (r : Fin 96) (c : Fin 256) :
   addBlock acc z s q x (ix2 r c) = acc (ix2 r c) + ∑ k, x (ix2 r k) * weights z s q (ix2 k c) := by
  pointwise [addBlock]

/-- The zero points of a block, 256 columns wide, at an index. -/
theorem zeros_apply (t : Fin 4) (u : Vec Ideal S8x128 .i32) (k : Fin 16) (c : Fin 256) :
    beside (zeroTile (F := Ideal) (wordBase t 0) u) (zeroTile (F := Ideal) (wordBase t 1) u) (ix2 k c)
      = nib (u (ix2 ⟨k.val % 8, by omega⟩ ⟨32 * t.val + c.val / 8, by omega⟩)) (c.val % 8) := by
  rw [beside_apply, zero_apply, zero_apply]
  split
  · refine congrArg₂ nib (congrArg u (congrArg (ix2 _) (Fin.ext ?_))) ?_
    · show 32 * t.val + 16 * 0 + c.val % 128 / 8 = 32 * t.val + c.val / 8; omega
    · show c.val % 128 % 8 = c.val % 8; omega
  · refine congrArg₂ nib (congrArg u (congrArg (ix2 _) (Fin.ext ?_))) ?_
    · show 32 * t.val + 16 * 1 + c.val % 128 / 8 = 32 * t.val + c.val / 8; omega
    · show c.val % 128 % 8 = c.val % 8; omega

/-- The scales of a block, 256 columns wide, at an index. -/
theorem scales_apply (p : Fin 2) (f : Fin 2 → Vec Ideal S1x8x2x128 .bf16) (k : Fin 16) (c : Fin 256) :
    beside (scaleTile p (f 0)) (scaleTile p (f 1)) (ix2 k c)
      = f ⟨c.val / 128, by omega⟩ (ix4 0 ⟨k.val % 8, by omega⟩ p ⟨c.val % 128, by omega⟩) := by
  rw [beside_apply, scale_apply, scale_apply]
  split
  · rw [show (⟨c.val / 128, by omega⟩ : Fin 2) = 0 from Fin.ext (by show c.val / 128 = 0; omega)]
  · rw [show (⟨c.val / 128, by omega⟩ : Fin 2) = 1 from Fin.ext (by show c.val / 128 = 1; omega)]

/-- What block `b` adds to row `r`, column `c` of piece `t`, over what the point loads. -/
def blockSum (qz : Fin 8 → Vec Ideal S8x128 .i32) (sr : Fin 8 → Fin 4 → Vec Ideal S1x8x2x128 .bf16) (q : Fin 8 → Fin 4 → Vec Ideal S128x256 .i32)
    (xc : Fin 8 → Vec Ideal S96x1024 .bf16) (t : Fin 4) (r : Fin 96) (c : Fin 256) (b : Fin 8) : EReal :=
  ∑ k : Fin 1024, (xc b (ix2 r k) : EReal) *
    ((nib (q b t (ix2 ⟨k.val / 8, by omega⟩ c)) (k.val % 8) - nib (qz b (ix2 ⟨k.val % 8, by omega⟩ ⟨32 * t.val + c.val / 8, by omega⟩)) (c.val % 8))
      * sr (chunk t ⟨c.val / 128, by omega⟩) (half b) (ix4 0 ⟨k.val % 8, by omega⟩ (par b) ⟨c.val % 128, by omega⟩))

/-- One block's step at an index: the old value plus what the block adds. -/
theorem stepBlock_apply (qz : Fin 8 → Vec Ideal S8x128 .i32) (sr : Fin 8 → Fin 4 → Vec Ideal S1x8x2x128 .bf16) (q : Fin 8 → Fin 4 → Vec Ideal S128x256 .i32)
    (xc : Fin 8 → Vec Ideal S96x1024 .bf16) (t : Fin 4) (b : Fin 8) (acc : FVec Ideal S96x256 .f32) (r : Fin 96) (c : Fin 256) :
    stepBlock qz sr q xc t b acc (ix2 r c) = acc (ix2 r c) + blockSum qz sr q xc t r c b := by
  unfold stepBlock blockSum
  rw [add_apply]
  congr 1
  refine Finset.sum_congr rfl fun k _ => ?_
  rw [weights_apply, zeros_apply, scales_apply (par b) (fun h => sr (chunk t h) (half b))]
  have e : (⟨k.val % 16 % 8, by omega⟩ : Fin 8) = ⟨k.val % 8, by omega⟩ := Fin.ext (by show k.val % 16 % 8 = k.val % 8; omega)
  rw [e]

/-- A piece of the output at an index: the sum of what the eight blocks add. -/
theorem outPiece_apply (qz : Fin 8 → Vec Ideal S8x128 .i32) (sr : Fin 8 → Fin 4 → Vec Ideal S1x8x2x128 .bf16) (q : Fin 8 → Fin 4 → Vec Ideal S128x256 .i32)
    (xc : Fin 8 → Vec Ideal S96x1024 .bf16) (t : Fin 4) (r : Fin 96) (c : Fin 256) :
    outPiece qz sr q xc t (ix2 r c) = ∑ b : Fin 8, blockSum qz sr q xc t r c b := by
  pointwise [outPiece]
  simp only [stepBlock_apply]
  pointwise
  rw [Fin.sum_univ_eight]

/-- Where a scale row pair lies. -/
theorem scaleRect_idx (c : Fin 8) (b : Fin 4) (s : Fin 8) (p : Fin 2) (l : Fin 128) :
    (scaleRect c b).idx (ix4 0 s p l) = ix4 c ⟨b.val + 4 * s.val, by omega⟩ p l := by
  funext a
  match a with
  | 0 => exact Fin.ext (by show c.val + 1 * 0 = c.val; omega)
  | 1 => rfl
  | 2 => exact Fin.ext (by show 0 + 1 * p.val = p.val; omega)
  | 3 => exact Fin.ext (by show 0 + 1 * l.val = l.val; omega)

/-- The scratch, read as row pairs, at an index. -/
theorem scalePair_apply (x2 : Vec Ideal S64x1024 .bf16) (c : Fin 8) (w : Fin 32) (p : Fin 2) (l : Fin 128) :
    scaleBuf x2 (Shape.reshapeEquiv reshapes_S8x64x128_S8x32x2x128.1 (ix4 c w p l))
      = x2 (ix2 ⟨2 * w.val + p.val, by omega⟩ ⟨128 * c.val + l.val, by omega⟩) := by
  rw [Shape.reshapeEquiv_eq_of_rowMajor reshapes_S8x64x128_S8x32x2x128.1 (x := ix4 c w p l) (y := ix3 c ⟨2 * w.val + p.val, by omega⟩ l) (by
    rw [Shape.rowMajor_val_three, Shape.rowMajor_val_four]
    show (c.val * 64 + (2 * w.val + p.val)) * 128 + l.val = ((c.val * 32 + w.val) * 2 + p.val) * 128 + l.val
    omega)]
  rfl

/-- The scale a point reads for block `b`, row `s` of eight, column `c`. -/
theorem scaleBuf_apply (x2 : Vec Ideal S64x1024 .bf16) (c : Fin 1024) (b s : Fin 8) :
    scaleBuf x2 (Shape.reshapeEquiv reshapes_S8x64x128_S8x32x2x128.1
      ((scaleRect (chunk ⟨c.val / 256, by omega⟩ ⟨c.val % 256 / 128, by omega⟩) (half b)).idx (ix4 0 s (par b) ⟨c.val % 256 % 128, by omega⟩)))
      = x2 (ix2 ⟨b.val + 8 * s.val, by omega⟩ c) := by
  rw [scaleRect_idx, scalePair_apply]
  refine congrArg x2 (congrArg₂ ix2 (Fin.ext ?_) (Fin.ext ?_))
  · show 2 * (b.val / 2 + 4 * s.val) + b.val % 2 = b.val + 8 * s.val; omega
  · show 128 * (2 * (c.val / 256) + c.val % 256 / 128) + c.val % 256 % 128 = c.val; omega

/-- The output block at an index: the sum over the eight blocks and their 1024 rows. -/
theorem outBlk_apply (x0 : Vec Ideal S96x8192 .bf16) (x1 : Vec Ideal S1024x1024 .i32) (x2 : Vec Ideal S64x1024 .bf16) (x3 : Vec Ideal S64x128 .i32)
    (r : Fin 96) (c : Fin 1024) :
    outBlk x0 x1 x2 x3 (ix2 r c) = ∑ b : Fin 8, ∑ k : Fin 1024, (x0 (ix2 r ⟨1024 * b.val + k.val, by omega⟩) : EReal) *
      ((nib (x1 (ix2 ⟨128 * b.val + k.val / 8, by omega⟩ c)) (k.val % 8) - nib (x3 (ix2 ⟨b.val + 8 * (k.val % 8), by omega⟩ ⟨c.val / 8, by omega⟩)) (c.val % 8))
        * x2 (ix2 ⟨b.val + 8 * (k.val % 8), by omega⟩ c)) := by
  unfold outBlk outOf
  refine (outPiece_apply _ _ _ _ _ _ _).trans ?_
  refine Finset.sum_congr rfl fun b _ => Finset.sum_congr rfl fun k _ => ?_
  have hb : b.val % 2 + 2 * (b.val / 2) = b.val := by omega
  have ex : (xRect b).idx (ix2 r k) = ix2 r ⟨1024 * b.val + k.val, by omega⟩ := by
    funext a
    match a with
    | 0 => exact Fin.ext (by show 0 + 1 * r.val = r.val; omega)
    | 1 => exact Fin.ext (by show 1024 * b.val + 1 * k.val = 1024 * b.val + k.val; omega)
  have eq : (codeRect b ⟨c.val / 256, by omega⟩).idx (ix2 ⟨k.val / 8, by omega⟩ ⟨c.val % 256, by omega⟩) = ix2 ⟨128 * b.val + k.val / 8, by omega⟩ c := by
    funext a
    match a with
    | 0 => exact Fin.ext (by show 128 * b.val + 1 * (k.val / 8) = 128 * b.val + k.val / 8; omega)
    | 1 => exact Fin.ext (by show 256 * (c.val / 256) + 1 * (c.val % 256) = c.val; omega)
  have ez : (zeroRect b).idx (ix2 ⟨k.val % 8, by omega⟩ ⟨32 * (c.val / 256) + c.val % 256 / 8, by omega⟩) = ix2 ⟨b.val + 8 * (k.val % 8), by omega⟩ ⟨c.val / 8, by omega⟩ := by
    funext a
    match a with
    | 0 => exact Fin.ext (by show b.val + 8 * (k.val % 8) = b.val + 8 * (k.val % 8); omega)
    | 1 => exact Fin.ext (by show 0 + 1 * (32 * (c.val / 256) + c.val % 256 / 8) = c.val / 8; omega)
  have es := scaleBuf_apply x2 c b ⟨k.val % 8, by omega⟩
  dsimp only
  show x0 ((xRect b).idx (ix2 r k)) * ((nib (x1 ((codeRect b ⟨c.val / 256, _⟩).idx (ix2 ⟨k.val / 8, _⟩ ⟨c.val % 256, _⟩))) (k.val % 8)
    - nib (x3 ((zeroRect b).idx (ix2 ⟨k.val % 8, _⟩ ⟨32 * (c.val / 256) + c.val % 256 / 8, _⟩))) (c.val % 256 % 8))
    * scaleBuf x2 (Shape.reshapeEquiv _ ((scaleRect (chunk ⟨c.val / 256, _⟩ ⟨c.val % 256 / 128, _⟩) (half b)).idx (ix4 0 ⟨k.val % 8, _⟩ (par b) ⟨c.val % 256 % 128, _⟩)))) = _
  rw [ex, eq, ez, es, show c.val % 256 % 8 = c.val % 8 by omega]

end Cert.KernelIdeal.Gen
end
-- ==== Proof.Hand.ValueIdeal.lean ====
/- What the idealized kernel computes: its result element `(m, 0, n)` is the sum, over blocks of 128 word rows and over the
   1024 nibbles of a block, of the products of the matrix multiplication (`Cert.Int4.term`). -/
module

public import proofs.«01_k».proof.Proof.Hand.FrameIdeal
public import proofs.«01_k».proof.Proof.Hand.BlockIdeal
public import Idealize.ShloMosaic.Lib.Pipeline.ValueKit

@[expose] public section

set_option maxRecDepth 16384

noncomputable section

namespace Cert.KernelIdeal.Gen

open Idealize.ShloMosaic Idealize.ShloMosaic.TcCoe Idealize.SL.Sem Cert.Int4

variable (m : (ℓ : Loc nD τ sig) → Buf (Elt Ideal) ℓ) (ρ : Dev nD → PrngReg)

/-- The input that the host hands to the kernel, as the host's operations make it of the argument. -/
theorem V_v2_eq (c : Dev nD) : (V m c main_v2 : Vec Ideal S96x8192 .bf16) = shapeCast S96x8192 (transpose S96x1024x8 [0, 2, 1]
    (shapeCast S96x8x1024 (m ((c : Thread nD τ).loc main_arg0) : Vec Ideal S96x1x8192 .bf16) shapeCasts_S96x1x8192_S96x8x1024)
    transposes_S96x8x1024_S96x1024x8_0_2_1) shapeCasts_S96x1024x8_S96x8192 := by
  entry_read
  simp only [List.flatten_cons, List.flatten_nil, List.append_nil, hostOps0]
  after_results_simp
  all_goals rfl

/-- The input that the host hands to the kernel: lane `8 p + j` of a row is lane `1024 j + p` of the argument's. -/
theorem V_v2 (c : Dev nD) (r : Fin 96) (k : Fin 8192) :
    V m c main_v2 (ix2 r k) = m ((c : Thread nD τ).loc main_arg0) (ix3 r 0 ⟨1024 * (k.val % 8) + k.val / 8, by omega⟩) := by
  rw [V_v2_eq]
  refine (shapeCast_apply _ _ _ (ix3 r ⟨k.val / 8, by omega⟩ ⟨k.val % 8, by omega⟩) ?_).trans ?_
  · rw [Shape.rowMajor_val_three, Shape.rowMajor_val_two]
    show (r.val * 1024 + k.val / 8) * 8 + k.val % 8 = r.val * 8192 + k.val
    omega
  refine (transpose_apply _ _ _ _ (ix3 r ⟨k.val % 8, by omega⟩ ⟨k.val / 8, by omega⟩) fun b => ?_).trans ?_
  · fin_cases b <;> rfl
  refine shapeCast_apply _ _ _ _ ?_
  refine (Shape.rowMajor_val_three (d := ![96, 1, 8192]) _).trans (Eq.trans ?_ (Shape.rowMajor_val_three (d := ![96, 8, 1024]) _).symm)
  show (r.val * 1 + 0) * 8192 + (1024 * (k.val % 8) + k.val / 8) = (r.val * 8 + k.val % 8) * 1024 + k.val / 8
  omega

/-- The windows' block indices over the grid. -/
theorem idx : ∀ t : Fin cfg0.N, win0_0.index t = ![0, 0] ∧ win0_1.index t = ![0, t.val] ∧ win0_2.index t = ![0, t.val]
    ∧ win0_3.index t = ![0, t.val] ∧ win0_4.index t = ![0, t.val] :=
  (by decide +kernel : ∀ t : Fin grid0.N, _)

/-- Window 0 holds the whole prepared input at every point. -/
theorem iblk0 (c : Dev nD) (t : Fin cfg0.N) (r : Fin 96) (k : Fin 8192) :
    iblk m c 0 t (ix2 r k) = V m c main_v2 (ix2 r k) := by
  blk_ext [iblk, idx t]

/-- Window 1 at point `t` holds the code words of columns 1024 t … 1024 t + 1023. -/
theorem iblk1 (c : Dev nD) (t : Fin cfg0.N) (r : Fin 1024) (k : Fin 1024) :
    iblk m c 1 t (ix2 r k) = m ((c : Thread nD τ).loc main_arg1) (ix2 r ⟨1024 * t.val + k.val, by have : t.val < 32 := t.isLt; omega⟩) := by
  blk_ext [iblk, idx t]

/-- Window 2 at point `t` holds the scales of columns 1024 t … 1024 t + 1023. -/
theorem iblk2 (c : Dev nD) (t : Fin cfg0.N) (r : Fin 64) (k : Fin 1024) :
    iblk m c 2 t (ix2 r k) = m ((c : Thread nD τ).loc main_arg2) (ix2 r ⟨1024 * t.val + k.val, by have : t.val < 32 := t.isLt; omega⟩) := by
  blk_ext [iblk, idx t]

/-- Window 3 at point `t` holds the zero-point words of columns 128 t … 128 t + 127. -/
theorem iblk3 (c : Dev nD) (t : Fin cfg0.N) (r : Fin 64) (k : Fin 128) :
    iblk m c 3 t (ix2 r k) = m ((c : Thread nD τ).loc main_arg3) (ix2 r ⟨128 * t.val + k.val, by have : t.val < 32 := t.isLt; omega⟩) := by
  blk_ext [iblk, idx t]

/-- The kernel's result as one array: element `(r, n)` is the sum over blocks and the nibbles of a block. -/
def out (c : Dev nD) : Vec Ideal S96x32768 .bf16 := fun i =>
  ∑ b : Fin 8, ∑ k : Fin 1024, term (m ((c : Thread nD τ).loc main_arg0)) (m ((c : Thread nD τ).loc main_arg1))
    (m ((c : Thread nD τ).loc main_arg2)) (m ((c : Thread nD τ).loc main_arg3)) (i 0) (i 1)
    ⟨k.val % 8, by omega⟩ ⟨128 * b.val + k.val / 8, by omega⟩

/-- The block that point `t` leaves is the matching block of `out`. -/
theorem point (c : Dev nD) (t : Fin cfg0.N) (r : Fin 96) (k : Fin 1024) :
    outBlk (iblk m c 0 t) (iblk m c 1 t) (iblk m c 2 t) (iblk m c 3 t) (ix2 r k)
      = out m c (ix2 r ⟨1024 * t.val + k.val, by have : t.val < 32 := t.isLt; omega⟩) := by
  rw [outBlk_apply]
  refine Finset.sum_congr rfl fun b _ => Finset.sum_congr rfl fun q _ => ?_
  rw [iblk0, V_v2, iblk1, iblk2, iblk3]
  have ht : t.val < 32 := t.isLt
  unfold term
  refine congrArg₂ (· * ·) (congrArg _ (congrArg (ix3 r 0) (Fin.ext ?_))) (congrArg₂ (· * ·) (congrArg₂ (· - ·) rfl
    (congrArg₂ nib (congrArg _ (congrArg₂ ix2 (Fin.ext ?_) (Fin.ext ?_))) ?_)) (congrArg _ (congrArg₂ ix2 (Fin.ext ?_) rfl)))
  · show 1024 * ((1024 * b.val + q.val) % 8) + (1024 * b.val + q.val) / 8 = 1024 * (q.val % 8) + (128 * b.val + q.val / 8)
    omega
  · show b.val + 8 * (q.val % 8) = 8 * (q.val % 8) + (128 * b.val + q.val / 8) / 128
    omega
  · show 128 * t.val + k.val / 8 = (1024 * t.val + k.val) / 8
    omega
  · show k.val % 8 = (1024 * t.val + k.val) % 8
    omega
  · show b.val + 8 * (q.val % 8) = 8 * (q.val % 8) + (128 * b.val + q.val / 8) / 128
    omega

/-- The blocks of all points cover the result array, which therefore ends at `out`. -/
theorem final_o (c : Dev nD) : (dats m 0 c).arrAt 4 cfg0.N = out m c := by
  refine (dats m 0 c).arrAt_eq_of_covers 4 _ (by decide +kernel) fun t hf y => ?_
  blk_simp
  rw [after0_4]
  obtain ⟨r, k, rfl⟩ : ∃ (r : Fin 96) (k : Fin 1024), y = ix2 r k := ⟨y 0, y 1, (ix2_eta y).symm⟩
  refine (point m c t r k).trans (congrArg _ ?_)
  blk_ext [idx t]

/-- The host's reshape of the kernel's result: element `(r, 0, n)` is element `(r, n)` of the array. -/
theorem tail_v4 (c : Dev nD) (r : Fin 96) (n : Fin 32768) :
    (Pipeline.afterTail₀ cfgs (dats m) 0 (V0 m) [hostOps1] c main_v4 : Vec Ideal S96x1x32768 .bf16) (ix3 r 0 n)
      = out m c (ix2 r n) := by
  have h : (Pipeline.afterTail₀ cfgs (dats m) 0 (V0 m) [hostOps1] c main_v4 : Vec Ideal S96x1x32768 .bf16)
      = shapeCast S96x1x32768 (out m c) shapeCasts_S96x32768_S96x1x32768 := by
    rw [← final_o m c]
    unfold Pipeline.afterTail₀
    simp only [List.flatten_cons, List.flatten_nil, List.append_nil, hostOps1]
    after_results_simp
    have e := Pipeline.withArrays_arr spec0 winFacts0.arr_inj c (V0 m c) (fun w => (dats m 0 c).arrAt w (cfgs 0).N) 4
    exact congrArg (fun X : Vec Ideal S96x32768 .bf16 => shapeCast S96x1x32768 X shapeCasts_S96x32768_S96x1x32768) e
  rw [h]
  refine shapeCast_apply _ _ _ _ ?_
  refine (Shape.rowMajor_val_two (d := ![96, 32768]) _).trans (Eq.trans ?_ (Shape.rowMajor_val_three (d := ![96, 1, 32768]) _).symm)
  show r.val * 32768 + n.val = (r.val * 1 + 0) * 32768 + n.val
  omega

/-- The kernel's result element `(r, 0, n)`: the sum of the products over the nibbles of a word and the word rows. -/
theorem result_apply (c : Dev nD) (r : Fin 96) (n : Fin 32768) :
    ((Pipeline.afterTail₀ cfgs (dats m) 0 (V0 m) [hostOps1] c main_v4 : Vec Ideal S96x1x32768 .bf16) (ix3 r 0 n) : EReal)
      = ∑ j : Fin 8, ∑ p : Fin 1024, term (m ((c : Thread nD τ).loc main_arg0)) (m ((c : Thread nD τ).loc main_arg1))
          (m ((c : Thread nD τ).loc main_arg2)) (m ((c : Thread nD τ).loc main_arg3)) r n j p :=
  (tail_v4 m c r n).trans (sum_blocks fun j p => term (m ((c : Thread nD τ).loc main_arg0)) (m ((c : Thread nD τ).loc main_arg1))
          (m ((c : Thread nD τ).loc main_arg2)) (m ((c : Thread nD τ).loc main_arg3)) r n j p)

/-- The kernel's run with its result named: what the host's reshape leaves, the arguments unchanged. -/
theorem run : θ_run defs (onTc (τ := τ) (main (F := Ideal))) ⟨m, fun _ => 0, ρ⟩ fun r => ∀ c : Dev nD,
      r.2.mem ((c.tc : Thread nD τ).loc main_v4) = Pipeline.afterTail₀ cfgs (dats m) 0 (V0 m) [hostOps1] c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h.2 c).2 main_v4 (Pipeline.mem_restRefs_of main_v4 (by decide) (by decide)), h.1 c⟩)
    (θ_run_and (unchanged m ρ) (run_main m ρ))

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Hand.FrameBits
public import proofs.«01_k».proof.Proof.Hand.FrameIdeal
public import proofs.«01_k».proof.Proof.Hand.RefValue
public import proofs.«01_k».proof.Proof.Hand.ValueIdeal
public import Idealize.ShloMosaic.Adequacy
public import Idealize.ShloMosaic.Init
public import Idealize.ShloMosaic.Lib.Bf16Pair
public import Idealize.ShloMosaic.Lib.Quiescent

@[expose] public section

noncomputable section

namespace Cert.Proof

open Idealize.ShloMosaic Idealize.SL.Sem Cert.Kernel

/-- The reference's arguments end unchanged and every semaphore counter ends at zero: it has no semaphore. -/
theorem quiescent_ReferenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- Every rewrite that made the idealized kernel is the rule's own statement. -/
theorem preserves : Cert.preserves_Kernel_KernelIdeal :=
  ⟨IdealRules.bf16_pair.statement _ _, IdealRules.bf16_pair.statement _ _⟩

/-- The kernel's result at the ideal instance is the reference's: both are, at every element, the sum of the same products
    (`Cert.Int4.term`), the kernel's by blocks of word rows and the reference's by nibbles. -/
theorem algebraic : Cert.algebraic_KernelIdeal_ReferenceIdeal := fun m g m' g' _ hagree =>
  ⟨fun c => Pipeline.afterTail₀ Cert.KernelIdeal.cfgs (Cert.KernelIdeal.Gen.dats m) 0 (Cert.KernelIdeal.Gen.V0 m)
      [Cert.KernelIdeal.Gen.hostOps1] c Cert.KernelIdeal.main_v4,
    Cert.KernelIdeal.Gen.run m g,
    (θ_run Cert.ReferenceIdeal.defs _ _).mono
      (fun r h c => ⟨(h c).1.trans (by
        refine funext fun i => ?_
        obtain ⟨a, b, n, rfl⟩ : ∃ (a : Fin 96) (b : Fin 1) (n : Fin 32768), i = ix3 a b n := ⟨i 0, i 1, i 2, eq_ix3 i⟩
        obtain rfl : b = 0 := Subsingleton.elim _ _
        obtain ⟨h0, h1, h2, h3⟩ := hagree c
        refine (Cert.ReferenceIdeal.Value.sum_apply (StableHlo.launchContents m' c) a n).trans
          (Eq.trans ?_ (Cert.KernelIdeal.Gen.result_apply m c a n).symm)
        rw [show StableHlo.launchContents m' c (Proc.devRef .tc Cert.ReferenceIdeal.main_arg0) = _ from h0,
          show StableHlo.launchContents m' c (Proc.devRef .tc Cert.ReferenceIdeal.main_arg1) = _ from h1,
          show StableHlo.launchContents m' c (Proc.devRef .tc Cert.ReferenceIdeal.main_arg2) = _ from h2,
          show StableHlo.launchContents m' c (Proc.devRef .tc Cert.ReferenceIdeal.main_arg3) = _ from h3]), (h c).2⟩)
      (Cert.ReferenceIdeal.Value.run m' g')⟩

/-- The certificate's claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, preserves, algebraic⟩

end Cert.Proof

end
